-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S80x128 : Shape := ⟨2, ![80, 128]⟩
abbrev S8x80x10000 : Shape := ⟨3, ![8, 80, 10000]⟩
abbrev S8 : Shape := ⟨1, ![8]⟩
abbrev S1 : Shape := ⟨1, ![1]⟩
abbrev S_ : Shape := ⟨0, ![]⟩
abbrev S1x80x10000 : Shape := ⟨3, ![1, 80, 10000]⟩
abbrev S80x10000 : Shape := ⟨2, ![80, 10000]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S80x128, .f32⟩
  | .local _ .vmem, ⟨3, _⟩ => ⟨S80x128, .f32⟩
  | .local _ .vmem, ⟨4, _⟩ => ⟨S8x80x10000, .f32⟩
  | .local _ .vmem, ⟨5, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![125], ![false]⟩

def k0_off1 (i : grid0.Coords) : Fin 1 → Nat :=
  let arg0 : BitVec 32 := BitVec.ofNat 32 (i 0).val
  let c8_i32 : BitVec 32 := 8#32
  let v3 : BitVec 32 := Scalar.remsi arg0 c8_i32
  ![v3.toNat]
def k0_off2 (i : grid0.Coords) : Fin 3 → Nat :=
  let arg0 : BitVec 32 := BitVec.ofNat 32 (i 0).val
  let c8_i32 : BitVec 32 := 8#32
  let v3 : BitVec 32 := Scalar.remsi arg0 c8_i32
  let c0_i32_1 : BitVec 32 := 0#32
  let c0_i32_2 : BitVec 32 := 0#32
  ![v3.toNat, 0, 0]
def k0_off3 (i : grid0.Coords) : Fin 2 → Nat :=
  let arg0 : BitVec 32 := BitVec.ofNat 32 (i 0).val
  let c80_i32 : BitVec 32 := 80#32
  let v4 : BitVec 32 := Scalar.muli arg0 c80_i32
  let c0_i32_3 : BitVec 32 := 0#32
  ![v4.toNat, 0]
def k0_cond2 (i : grid0.Coords) : BitVec 1 :=
  let arg0 : BitVec 32 := BitVec.ofNat 32 (i 0).val
  let c8_i32_4 : BitVec 32 := 8#32
  let v10 : BitVec 32 := Scalar.addi arg0 c8_i32_4
  let c1_i32 : BitVec 32 := 1#32
  let v11 : BitVec 32 := Scalar.subi v10 c1_i32
  let c125_i32 : BitVec 32 := 125#32
  let v12 : BitVec 1 := Scalar.cmpi .slt v11 c125_i32
  let v13 : BitVec 32 := Scalar.extui v12
  let c0_i32_5 : BitVec 32 := 0#32
  let v14 : BitVec 1 := Scalar.cmpi .ne v13 c0_i32_5
  v14

def k0_off4 (i : grid0.Coords) : Fin 1 → Nat :=
  let arg0 : BitVec 32 := BitVec.ofNat 32 (i 0).val
  let c8_i32_17 : BitVec 32 := 8#32
  let v32 : BitVec 32 := Scalar.addi arg0 c8_i32_17
  let c1_i32_18 : BitVec 32 := 1#32
  let v33 : BitVec 32 := Scalar.subi v32 c1_i32_18
  let c8_i32_19 : BitVec 32 := 8#32
  let v34 : BitVec 32 := Scalar.remsi v33 c8_i32_19
  ![v34.toNat]
def k0_off5 (i : grid0.Coords) : Fin 3 → Nat :=
  let arg0 : BitVec 32 := BitVec.ofNat 32 (i 0).val
  let c8_i32_17 : BitVec 32 := 8#32
  let v32 : BitVec 32 := Scalar.addi arg0 c8_i32_17
  let c1_i32_18 : BitVec 32 := 1#32
  let v33 : BitVec 32 := Scalar.subi v32 c1_i32_18
  let c8_i32_19 : BitVec 32 := 8#32
  let v34 : BitVec 32 := Scalar.remsi v33 c8_i32_19
  let c0_i32_21 : BitVec 32 := 0#32
  let c0_i32_22 : BitVec 32 := 0#32
  ![v34.toNat, 0, 0]
def k0_off6 (i : grid0.Coords) : Fin 2 → Nat :=
  let arg0 : BitVec 32 := BitVec.ofNat 32 (i 0).val
  let c8_i32_15 : BitVec 32 := 8#32
  let v30 : BitVec 32 := Scalar.addi arg0 c8_i32_15
  let c1_i32_16 : BitVec 32 := 1#32
  let v31 : BitVec 32 := Scalar.subi v30 c1_i32_16
  let c80_i32_20 : BitVec 32 := 80#32
  let v35 : BitVec 32 := Scalar.muli v31 c80_i32_20
  let c0_i32_23 : BitVec 32 := 0#32
  ![v35.toNat, 0]
def k0_off7 (i : grid0.Coords) : Fin 3 → Nat :=
  let arg0 : BitVec 32 := BitVec.ofNat 32 (i 0).val
  let c8_i32 : BitVec 32 := 8#32
  let v3 : BitVec 32 := Scalar.remsi arg0 c8_i32
  let v15 : Index := Scalar.indexCast v3
  let c0 : Index := 0#32
  let c0_6 : Index := 0#32
  ![v15.toNat, 0, 0]
def k0_off8 (i : grid0.Coords) : Fin 2 → Nat :=
  let arg0 : BitVec 32 := BitVec.ofNat 32 (i 0).val
  let c80_i32_9 : BitVec 32 := 80#32
  let v21 : BitVec 32 := Scalar.muli arg0 c80_i32_9
  let v22 : Index := Scalar.indexCast v21
  let c0_10 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S80x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Stream.Names.lean ====
/- The names the proof of the streamed kernel is stated over: the eight slots of the VMEM ring, the eight DMA
   cells, the 125 row blocks of the adjacency matrix, and the rules that turn the kernel's own spelling of a
   slot, a cell or a block into these names. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Which points do what -/

/-- The body's first branch: it starts the first seven transfers and computes the support. -/
abbrev first (i : grid0.Coords) : Prop :=
  (Scalar.cmpi .ne (Scalar.extui (Scalar.cmpi .eq (BitVec.ofNat 32 (i 0).val) 0#32)) 0#32) = 1#1

/-- The body's second branch: it starts the transfer of the block seven points ahead. -/
abbrev more (i : grid0.Coords) : Prop := k0_cond2 i = 1#1

/-- The first branch is taken at point 0 and at no other. -/
theorem first_iff : ∀ t : Fin grid0.N, first (grid0.coords t) ↔ t.val = 0 := by
  intro t
  have ht : t.val < 125 := Nat.lt_of_lt_of_eq t.isLt N_0
  have e0 : (grid0.coords t 0).val = t.val / 1 % 125 := Pipeline.Grid.coords_val t 0 (by decide) rfl
  simp only [first, e0]
  word_cmp

/-- The second branch is taken while the block seven ahead exists. -/
theorem more_iff : ∀ t : Fin grid0.N, more (grid0.coords t) ↔ t.val < 118 := by decide +kernel

/-! ## Buffers, slots, cells, blocks -/

/-- The ring's VMEM buffer, whole. -/
abbrev ringM : Memref sig .tc .vmem S8x80x10000 .f32 := Memref.whole cc0_scratch0
/-- The support's VMEM buffer, whole. -/
abbrev supM : Memref sig .tc .vmem S10000x128 .bf16 := Memref.whole cc0_scratch1
/-- The adjacency matrix in HBM, whole. -/
abbrev adjM : Memref sig .tc .hbm S10000x10000 .f32 := Memref.whole main_arg1

/-- Slot `s` lies within the ring, -/
theorem slot_inb (s : Fin 8) : ∀ a, (![s.val, 0, 0] : Fin 3 → Nat) a + S1x80x10000.size a ≤ S8x80x10000.size a := by
  have := s.isLt; intro a; fin_cases a <;> simp <;> omega
/-- row block `b` within the adjacency matrix, -/
theorem blk_inb (b : Fin 125) : ∀ a, (![80 * b.val, 0] : Fin 2 → Nat) a + S80x10000.size a ≤ S10000x10000.size a := by
  have := b.isLt; intro a; fin_cases a <;> simp <;> omega
/-- and cell `s` among the eight cells. -/
theorem cell_inb (s : Fin 8) : ∀ a, (![s.val] : Fin 1 → Nat) a + S1.size a ≤ S8.size a := by
  have := s.isLt; intro a; fin_cases a <;> simp <;> omega

/-- Slot `s` of the ring, as an 80 by 10000 buffer. -/
def slotM (s : Fin 8) : Memref sig .tc .vmem S80x10000 .f32 :=
  (ringM.slice (Rect.unit (s := S8x80x10000) ![s.val, 0, 0] S1x80x10000.size (slot_inb s)) (fun _ => rfl)).squeeze
    S80x10000 squeezes_S1x80x10000_S80x10000
/-- Row block `b` of the adjacency matrix: its rows `80 b` to `80 b + 79`. -/
def blkM (b : Fin 125) : Memref sig .tc .hbm S80x10000 .f32 :=
  adjM.slice (Rect.unit (s := S10000x10000) ![80 * b.val, 0] S80x10000.size (blk_inb b)) (fun _ => rfl)
/-- The DMA cell of slot `s`. -/
def cellA (s : Fin 8) : DmaSems sig S_ :=
  (cc0_scratch2.slice (Rect.unit (s := S8) ![s.val] S1.size (cell_inb s))).squeeze S_ squeezes_S1_S_
/-- Its place among the semaphores. -/
abbrev cellL (s : Fin 8) : SemLoc sig := SemLoc.dma (cellA s).sem

/-- The kernel's own semaphores in order: the pool's semaphores 4 to 11. -/
abbrev ownSem : Fin 8 → SemLoc sig := fun j =>
  (![SemLoc.dma 4, SemLoc.dma 5, SemLoc.dma 6, SemLoc.dma 7, SemLoc.dma 8, SemLoc.dma 9, SemLoc.dma 10, SemLoc.dma 11] :
    Fin 8 → SemLoc sig) j
/-- The cell of slot `s` is the `s`-th of them. -/
theorem cellL_eq : ∀ s : Fin 8, cellL s = ownSem s := by decide

/-! ## The kernel's spellings, renamed -/

section Rename
omit [FloatOps F]

/-- A slice of the ring at an offset equal to slot `s`'s is slot `s`. -/
theorem slot_at (s : Fin 8) {off : Fin 3 → Nat} (h : off = ![s.val, 0, 0])
    (hi : ∀ a, off a + S1x80x10000.size a ≤ S8x80x10000.size a) :
    (ringM.slice (Rect.unit (s := S8x80x10000) off S1x80x10000.size hi) (fun _ => rfl)).squeeze S80x10000
      squeezes_S1x80x10000_S80x10000 = slotM s := by
  subst h; rfl
/-- A slice of the cells at slot `s`'s offset is cell `s`. -/
theorem cell_at (s : Fin 8) {off : Fin 1 → Nat} (h : off = ![s.val]) (hi : ∀ a, off a + S1.size a ≤ S8.size a) :
    (cc0_scratch2.slice (Rect.unit (s := S8) off S1.size hi)).squeeze S_ squeezes_S1_S_ = cellA s := by
  subst h; rfl
/-- A slice of the adjacency matrix at block `b`'s offset is block `b`. -/
theorem blk_at (b : Fin 125) {off : Fin 2 → Nat} (h : off = ![80 * b.val, 0])
    (hi : ∀ a, off a + S80x10000.size a ≤ S10000x10000.size a) :
    adjM.slice (Rect.unit (s := S10000x10000) off S80x10000.size hi) (fun _ => rfl) = blkM b := by
  subst h; rfl

/-- The offsets the body computes at point `t`: the cell it waits on, -/
theorem off1_eq : ∀ t : Fin grid0.N, k0_off1 (grid0.coords t) = ![(Ring.sl 8 t.val).val] := by decide +kernel
/-- the slot it waits for, -/
theorem off2_eq : ∀ t : Fin grid0.N, k0_off2 (grid0.coords t) = ![(Ring.sl 8 t.val).val, 0, 0] := by decide +kernel
/-- the block it waits for, -/
theorem off3_eq : ∀ t : Fin grid0.N, k0_off3 (grid0.coords t) = ![80 * (Ring.bk 125 t.val).val, 0] := by decide +kernel
/-- the cell of the transfer it starts, -/
theorem off4_eq : ∀ t : Fin grid0.N, k0_off4 (grid0.coords t) = ![(Ring.sl 8 (t.val + 7)).val] := by decide +kernel
/-- the slot of that transfer, -/
theorem off5_eq : ∀ t : Fin grid0.N, k0_off5 (grid0.coords t) = ![(Ring.sl 8 (t.val + 7)).val, 0, 0] := by decide +kernel
/-- the block of that transfer, where it starts one, -/
theorem off6_eq : ∀ t : Fin grid0.N, more (grid0.coords t) →
    k0_off6 (grid0.coords t) = ![80 * (Ring.bk 125 (t.val + 7)).val, 0] := by decide +kernel
/-- the slot it reads, -/
theorem off7_eq : ∀ t : Fin grid0.N, k0_off7 (grid0.coords t) = ![(Ring.sl 8 t.val).val, 0, 0] := by decide +kernel
/-- and the rows of the features it reads. -/
theorem off8_eq : ∀ t : Fin grid0.N, k0_off8 (grid0.coords t) = ![80 * (Ring.bk 125 t.val).val, 0] := by decide +kernel

/-- The offset of the slot it reads, in closed form. -/
instance (priority := high) closedOff7 (t : Fin grid0.N) : ClosedOff (k0_off7 (grid0.coords t)) :=
  ⟨![(Ring.sl 8 t.val).val, 0, 0], off7_eq t⟩

end Rename

/-! ## What is held: slots, cells, blocks, transfers in flight -/

/-- The grid has a point. -/
instance : NeZero grid0.N := ⟨by rw [N_0]; decide⟩

/-- The contents of memref `M`'s buffer on core `c`, and that buffer held whole. -/
abbrev BufOf (c : Dev nD) {sp : Space} {S : Shape} {e : EltTy} (M : Memref sig .tc sp S e) : Type :=
  Buf (Elt F) (M.view.loc (c : Thread nD τ))
/-- That buffer held whole at contents `f`. -/
abbrev wholeP (c : Dev nD) {sp : Space} {S : Shape} {e : EltTy} (M : Memref sig .tc sp S e) (f : BufOf (F := F) c M) : sProp 𝕄 :=
  M.view.loc (c : Thread nD τ) ↦{fullShare} f

section Held
variable (c : Dev nD) (W : BufOf (F := F) c adjM)

/-- Slot `s` held at contents `f`. -/
abbrev slotP (s : Fin 8) (f : BufOf (F := F) c (slotM s)) : sProp 𝕄 :=
  (slotM s).view.loc (c : Thread nD τ) ↦[(slotM s).view.set]{fullShare} f
/-- Cell `s` at zero. -/
abbrev cellP (s : Fin 8) : sProp 𝕄 := semVal ((c : Thread nD τ), cellL s) 0
/-- Row block `b` of the adjacency matrix held. -/
abbrev homeP (b : Fin 125) : sProp 𝕄 :=
  (blkM b).view.loc (c : Thread nD τ) ↦[(blkM b).view.set]{fullShare} W
/-- Slot `s` once block `b` has been copied over it. -/
abbrev landed (s : Fin 8) (b : Fin 125) (f : BufOf (F := F) c (slotM s)) : BufOf (F := F) c (slotM s) :=
  (slotM s).view.writes (Elt F) f [⟨Rect.whole S80x10000, ReadAs.same.apply ((blkM b).view.read (Elt F) W)⟩]
/-- The transfer of block `b` into slot `s` in flight: it owes the slot filled and the block back. -/
abbrev flightP (s : Fin 8) (b : Fin 125) (f : BufOf (F := F) c (slotM s)) : sProp 𝕄 :=
  Transfers.Flight countersEmb (c : Thread nD τ) (cellL s) default ((slotM s).view.amount (cellL s))
    iprop(slotP c s (landed c W s b f) ∗ homeP c W b)

/-- The ring before point `k`: every slot free before the first point; from then on blocks `k` to `k + 6` in flight
    while they exist, and the other blocks at home. -/
def ringAt (k : ℕ) : sProp 𝕄 :=
  if k = 0 then Ring.At₀ (cellP c) (slotP c) (homeP c W)
  else Ring.At 7 (cellP c) (slotP c) (homeP c W) (flightP c W) k

end Held

end Cert.KernelIdeal.Stream

end
-- ==== Proof.Stream.Steps.lean ====
/- The ring between two points: what a point takes out of it and what it puts back, and what the launch hands the ring
   before the first point and takes back after the last. -/
module

public import proofs.«01_k».proof.Proof.Stream.Names

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (W : BufOf (F := F) c adjM)

/-- The eight roles: role `j` before point `t` is slot `(t + j) % 8`. -/
abbrev roles : List (Fin 8) := [0, 1, 2, 3, 4, 5, 6, 7]
/-- The list names every slot, -/
theorem roles_all : (Finset.univ : Finset (Fin 8)) = roles.toFinset := by decide
/-- each once. -/
theorem roles_nodup : roles.Nodup := by decide

/-- Role `j` before point `t`: a transfer in flight, or a free slot. -/
abbrev role (t : ℕ) (j : Fin 8) : sProp 𝕄 := Ring.slotAt (NB := 125) 7 (cellP c) (slotP c) (flightP c W) t j

/-- What point `t` leaves untouched: the blocks of `S` at home and the six transfers after its own. -/
def others (t : ℕ) (S : Finset (Fin 125)) : sProp 𝕄 :=
  iprop(bigSep S (homeP c W) ∗ role c W t 1 ∗ role c W t 2 ∗ role c W t 3 ∗ role c W t 4 ∗ role c W t 5 ∗ role c W t 6)

section
omit [FloatOps F]

/-- A role not yet waited for comes one place nearer with the next point. -/
theorem role_step (t : ℕ) (j j' : Fin 8) (hj : j'.val = j.val + 1) (h : j'.val < 7) : role c W (t + 1) j = role c W t j' :=
  Ring.slotAt_tail_role_n 7 _ _ _ t j j' hj h

/-- Before a point that starts a transfer: its own block in flight, the free slot and the block it will use, the rest. -/
theorem ring_here (t : ℕ) (h0 : t ≠ 0) (hB : t + 7 < 125) :
    ringAt c W t ⊢ iprop(Ring.inflight (flightP c W) (Ring.sl 8 t) (Ring.bk 125 t)
      ∗ Ring.free (cellP c) (slotP c) (Ring.sl 8 (t + 7)) ∗ homeP c W (Ring.bk 125 (t + 7))
      ∗ others c W t ((Ring.homeSet 7 t).erase (Ring.bk 125 (t + 7)))) := by
  unfold ringAt others
  rw [if_neg h0]
  unfold Ring.At
  rw [Ring.homeSet_out 7 t hB, bigSep_insert (Ring.bkL_not_mem_erase 7 t), Finset.erase_insert (Ring.bkL_not_mem_erase 7 t),
    bigSep_univ_eq_bigSepL roles roles_all roles_nodup]
  show iprop((homeP c W _ ∗ bigSep _ _) ∗ role c W t 0 ∗ role c W t 1 ∗ role c W t 2 ∗ role c W t 3 ∗ role c W t 4
    ∗ role c W t 5 ∗ role c W t 6 ∗ role c W t 7) ⊢ _
  rw [show role c W t 0 = _ from Ring.slotAt_eq_inflight 7 _ _ _ t 0 t rfl ⟨by decide, by omega⟩,
    show role c W t 7 = _ from Ring.slotAt_eq_free 7 _ _ _ t 7 (t + 7) (.inl rfl) (by omega)]
  iintro ⟨⟨Hh, HS⟩, H0, H1, H2, H3, H4, H5, H6, H7⟩
  isplitl [H0]; · iexact H0
  isplitl [H7]; · iexact H7
  isplitl [Hh]; · iexact Hh
  isplitl [HS]; · iexact HS
  isplitl [H1]; · iexact H1
  isplitl [H2]; · iexact H2
  isplitl [H3]; · iexact H3
  isplitl [H4]; · iexact H4
  isplitl [H5]; · iexact H5
  iexact H6

/-- After it: its block home, its slot free, the started transfer in flight, the rest — the ring before the next point. -/
theorem ring_next (t : ℕ) (hB : t + 7 < 125) :
    iprop(Ring.inflight (flightP c W) (Ring.sl 8 (t + 7)) (Ring.bk 125 (t + 7))
      ∗ Ring.free (cellP c) (slotP c) (Ring.sl 8 t) ∗ homeP c W (Ring.bk 125 t)
      ∗ others c W t ((Ring.homeSet 7 t).erase (Ring.bk 125 (t + 7)))) ⊢ ringAt c W (t + 1) := by
  unfold ringAt others
  have hm : Ring.bk 125 t ∉ (Ring.homeSet 7 t).erase (Ring.bk 125 (t + 7)) := Ring.bk_not_mem_erase 7 t (by omega) (by decide)
  rw [if_neg (Nat.succ_ne_zero t)]
  unfold Ring.At
  rw [Ring.homeSet_succ 7 t hB, bigSep_insert hm, bigSep_univ_eq_bigSepL roles roles_all roles_nodup]
  show _ ⊢ iprop((homeP c W _ ∗ bigSep _ _) ∗ role c W (t + 1) 0 ∗ role c W (t + 1) 1 ∗ role c W (t + 1) 2
    ∗ role c W (t + 1) 3 ∗ role c W (t + 1) 4 ∗ role c W (t + 1) 5 ∗ role c W (t + 1) 6 ∗ role c W (t + 1) 7)
  rw [role_step c W t 0 1 rfl (by decide), role_step c W t 1 2 rfl (by decide), role_step c W t 2 3 rfl (by decide),
    role_step c W t 3 4 rfl (by decide), role_step c W t 4 5 rfl (by decide), role_step c W t 5 6 rfl (by decide),
    show role c W (t + 1) 6 = _ from
      Ring.slotAt_eq_inflight 7 _ _ _ (t + 1) 6 (t + 7) (by show t + 1 + 6 = t + 7; omega) ⟨by decide, hB⟩,
    show role c W (t + 1) 7 = _ from
      Ring.slotAt_eq_free 7 _ _ _ (t + 1) 7 t (.inr (by show t + 1 + 7 = t + 8; omega)) (fun h => absurd h.1 (by decide))]
  iintro ⟨H7, H0, Hh, HS, H1, H2, H3, H4, H5, H6⟩
  isplitl [Hh HS]
  · isplitl [Hh]; · iexact Hh
    iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H0

/-- Before one of the last seven points: its own block in flight, a free slot it does not use, the rest. -/
theorem ring_here_last (t : ℕ) (h0 : t ≠ 0) (ht : t < 125) :
    ringAt c W t ⊢ iprop(Ring.inflight (flightP c W) (Ring.sl 8 t) (Ring.bk 125 t)
      ∗ Ring.free (cellP c) (slotP c) (Ring.sl 8 (t + 7)) ∗ others c W t (Ring.homeSet 7 t)) := by
  unfold ringAt others
  rw [if_neg h0, Ring.At_here_tail_n _ 7 _ _ _ roles roles_all roles_nodup rfl (by decide) t ht]
  show iprop(bigSep _ _ ∗ Ring.inflight (flightP c W) (Ring.sl 8 t) (Ring.bk 125 t) ∗ role c W t 1 ∗ role c W t 2 ∗ role c W t 3
    ∗ role c W t 4 ∗ role c W t 5 ∗ role c W t 6 ∗ Ring.free (cellP c) (slotP c) (Ring.sl 8 (t + 7))) ⊢ _
  iintro ⟨HS, H0, H1, H2, H3, H4, H5, H6, H7⟩
  isplitl [H0]; · iexact H0
  isplitl [H7]; · iexact H7
  isplitl [HS]; · iexact HS
  isplitl [H1]; · iexact H1
  isplitl [H2]; · iexact H2
  isplitl [H3]; · iexact H3
  isplitl [H4]; · iexact H4
  isplitl [H5]; · iexact H5
  iexact H6

/-- After it: its block home and its slot free too — the ring before the next point. -/
theorem ring_next_last (t : ℕ) (hB : 125 ≤ t + 7) (ht : t < 125) :
    iprop(Ring.free (cellP c) (slotP c) (Ring.sl 8 t) ∗ homeP c W (Ring.bk 125 t)
      ∗ Ring.free (cellP c) (slotP c) (Ring.sl 8 (t + 7)) ∗ others c W t (Ring.homeSet 7 t)) ⊢ ringAt c W (t + 1) := by
  unfold ringAt others
  rw [if_neg (Nat.succ_ne_zero t), Ring.At_next_tail_n _ 7 _ _ _ roles roles_all roles_nodup rfl t hB ht]
  show _ ⊢ iprop((homeP c W _ ∗ bigSep _ _) ∗ role c W (t + 1) 0 ∗ role c W (t + 1) 1 ∗ role c W (t + 1) 2
    ∗ role c W (t + 1) 3 ∗ role c W (t + 1) 4 ∗ role c W (t + 1) 5 ∗ Ring.free (cellP c) (slotP c) (Ring.sl 8 (t + 7))
    ∗ Ring.free (cellP c) (slotP c) (Ring.sl 8 t))
  rw [role_step c W t 0 1 rfl (by decide), role_step c W t 1 2 rfl (by decide), role_step c W t 2 3 rfl (by decide),
    role_step c W t 3 4 rfl (by decide), role_step c W t 4 5 rfl (by decide), role_step c W t 5 6 rfl (by decide)]
  iintro ⟨H0, Hh, H7, HS, H1, H2, H3, H4, H5, H6⟩
  isplitl [Hh HS]
  · isplitl [Hh]; · iexact Hh
    iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H0

/-- Before the first point: the eight slots free and the first eight blocks at home, and the other blocks. -/
theorem ring_first (t : ℕ) (ht : t = 0) :
    ringAt c W t = iprop((homeP c W (Ring.bk 125 t) ∗ homeP c W (Ring.bk 125 (t + 1)) ∗ homeP c W (Ring.bk 125 (t + 2))
        ∗ homeP c W (Ring.bk 125 (t + 3)) ∗ homeP c W (Ring.bk 125 (t + 4)) ∗ homeP c W (Ring.bk 125 (t + 5))
        ∗ homeP c W (Ring.bk 125 (t + 6)) ∗ homeP c W (Ring.bk 125 (t + 7))
        ∗ bigSep ((Ring.homeSet 7 0).erase (Ring.bk 125 7)) (homeP c W))
      ∗ Ring.free (cellP c) (slotP c) (Ring.sl 8 t) ∗ Ring.free (cellP c) (slotP c) (Ring.sl 8 (t + 1))
      ∗ Ring.free (cellP c) (slotP c) (Ring.sl 8 (t + 2)) ∗ Ring.free (cellP c) (slotP c) (Ring.sl 8 (t + 3))
      ∗ Ring.free (cellP c) (slotP c) (Ring.sl 8 (t + 4)) ∗ Ring.free (cellP c) (slotP c) (Ring.sl 8 (t + 5))
      ∗ Ring.free (cellP c) (slotP c) (Ring.sl 8 (t + 6)) ∗ Ring.free (cellP c) (slotP c) (Ring.sl 8 (t + 7))) := by
  unfold ringAt
  rw [if_pos ht, Ring.At₀_eq_n' _ 7 _ _ roles roles_all roles_nodup rfl t ht (by decide)]
  rfl

/-- After it: block 0 home and slot 0 free, blocks 1 to 7 in flight. -/
theorem ring_second (t : ℕ) (ht : t = 0) :
    ringAt c W (t + 1) = iprop((homeP c W (Ring.bk 125 t) ∗ bigSep ((Ring.homeSet 7 0).erase (Ring.bk 125 7)) (homeP c W))
      ∗ Ring.inflight (flightP c W) (Ring.sl 8 (t + 1)) (Ring.bk 125 (t + 1))
      ∗ Ring.inflight (flightP c W) (Ring.sl 8 (t + 2)) (Ring.bk 125 (t + 2))
      ∗ Ring.inflight (flightP c W) (Ring.sl 8 (t + 3)) (Ring.bk 125 (t + 3))
      ∗ Ring.inflight (flightP c W) (Ring.sl 8 (t + 4)) (Ring.bk 125 (t + 4))
      ∗ Ring.inflight (flightP c W) (Ring.sl 8 (t + 5)) (Ring.bk 125 (t + 5))
      ∗ Ring.inflight (flightP c W) (Ring.sl 8 (t + 6)) (Ring.bk 125 (t + 6))
      ∗ Ring.inflight (flightP c W) (Ring.sl 8 (t + 7)) (Ring.bk 125 (t + 7))
      ∗ Ring.free (cellP c) (slotP c) (Ring.sl 8 t)) := by
  subst ht
  unfold ringAt
  rw [if_neg (Nat.succ_ne_zero 0), Ring.At_one_n' _ 7 _ _ _ roles roles_all roles_nodup rfl 0 rfl (by decide)]
  rfl

/-! ## Into the ring and out of it -/

/-- The entries of slot `s`. -/
abbrev slotSet (s : Fin 8) : Finset S8x80x10000.Idx :=
  (Rect.unit (s := S8x80x10000) ![s.val, 0, 0] S1x80x10000.size (slot_inb s)).set
/-- The entries of row block `b`. -/
abbrev blkSet (b : Fin 125) : Finset S10000x10000.Idx :=
  (Rect.unit (s := S10000x10000) ![80 * b.val, 0] S80x10000.size (blk_inb b)).set

/-- A slot's view covers exactly those entries of the ring, -/
theorem slotM_set (s : Fin 8) : (slotM s).view.set = slotSet s := by
  simp only [slotM, Memref.view_squeeze, View.set_reshape]; exact View.set_slice_whole _ _
/-- and a row block's view exactly those of the matrix. -/
theorem blkM_set (b : Fin 125) : (blkM b).view.set = blkSet b := View.set_slice_whole _ _

/-- Two slots share no entry, -/
theorem slots_disjoint (s s' : Fin 8) (h : s ≠ s') : Disjoint (slotSet s) (slotSet s') :=
  Ring.lead_disjoint (s := S8x80x10000) (0 : Fin 3) 1 (fun s : Fin 8 => (![s.val, 0, 0] : Fin 3 → Nat)) S1x80x10000.size
    slot_inb (fun s => by simp) rfl s s' h
/-- and the slots fill the ring; -/
theorem slots_cover : Finset.univ.biUnion slotSet = Finset.univ :=
  Ring.lead_cover (s := S8x80x10000) (0 : Fin 3) 1 (fun s : Fin 8 => (![s.val, 0, 0] : Fin 3 → Nat)) S1x80x10000.size slot_inb
    (fun s => by simp) (fun s a ha => by fin_cases a <;> first | exact absurd rfl ha | rfl) rfl
    (fun a ha => by fin_cases a <;> first | exact absurd rfl ha | rfl) rfl
/-- two row blocks share no entry, -/
theorem blks_disjoint (b b' : Fin 125) (h : b ≠ b') : Disjoint (blkSet b) (blkSet b') :=
  Ring.lead_disjoint (s := S10000x10000) (0 : Fin 2) 80 (fun b : Fin 125 => (![80 * b.val, 0] : Fin 2 → Nat)) S80x10000.size
    blk_inb (fun b => by simp) rfl b b' h
/-- and the row blocks fill the matrix. -/
theorem blks_cover : Finset.univ.biUnion blkSet = Finset.univ :=
  Ring.lead_cover (s := S10000x10000) (0 : Fin 2) 80 (fun b : Fin 125 => (![80 * b.val, 0] : Fin 2 → Nat)) S80x10000.size blk_inb
    (fun b => by simp) (fun b a ha => by fin_cases a <;> first | exact absurd rfl ha | rfl) rfl
    (fun a ha => by fin_cases a <;> first | exact absurd rfl ha | rfl) rfl

/-- A slot held, in terms of its entries of the ring, -/
theorem slotP_eq (s : Fin 8) (f) :
    slotP (F := F) c s f = (((c : Thread nD τ).loc cc0_scratch0) ↦[slotSet s]{fullShare} f : sProp 𝕄) := by
  unfold slotP; rw [slotM_set]; rfl
/-- and a row block held, in terms of its entries of the matrix. -/
theorem homeP_eq (b : Fin 125) :
    homeP (F := F) c W b = (((c : Thread nD τ).loc main_arg1) ↦[blkSet b]{fullShare} W : sProp 𝕄) := by
  unfold homeP; rw [blkM_set]; rfl

/-- The adjacency matrix held whole is its 125 row blocks held. -/
theorem homes_eq : bigSep Finset.univ (homeP (F := F) c W) = (((c : Thread nD τ).loc main_arg1) ↦{fullShare} W : sProp 𝕄) := by
  rw [Ring.pointsTo_blocks (Ix := Unit) (Name := ℕ) (U := Pipeline.UD sig nD τ) (Lvl := ℕ) blkSet blks_disjoint blks_cover W]
  exact bigSep_congr fun b _ => homeP_eq c W b

/-- The kernel's eight semaphores at zero are the ring's cells. -/
theorem cells_eq : bigSep Finset.univ (cellP (F := F) c)
    = (Pipeline.ownSems0 (Ix := Unit) (Name := ℕ) (U := Pipeline.UD sig nD τ) (Lvl := ℕ) (Val := Elt F) (τ := τ) ownSem c : sProp 𝕄) :=
  bigSep_congr fun s _ => congrArg (fun l => (semVal ((c : Thread nD τ), l) 0 : sProp 𝕄)) (cellL_eq s)

/-- The ring buffer at any contents is its eight slots at any contents, -/
theorem slots_in : iprop(∃ f : Buf (Elt F) ((c : Thread nD τ).loc cc0_scratch0), ((c : Thread nD τ).loc cc0_scratch0) ↦{fullShare} f)
    ⊢ (bigSep Finset.univ (fun s => iprop(∃ f, slotP (F := F) c s f)) : sProp 𝕄) := by
  rw [bigSep_univ_eq_bigSepL roles roles_all roles_nodup]
  exact Ring.slots_split_n (U := Pipeline.UD sig nD τ) (q := fullShare) (ℓ := (c : Thread nD τ).loc cc0_scratch0) slotSet
    slots_disjoint slots_cover roles roles_all roles_nodup (slotP c) (slotP_eq c)
/-- and back. -/
theorem slots_out : (bigSep Finset.univ (fun s => iprop(∃ f, slotP (F := F) c s f)) : sProp 𝕄)
    ⊢ iprop(∃ f : Buf (Elt F) ((c : Thread nD τ).loc cc0_scratch0), ((c : Thread nD τ).loc cc0_scratch0) ↦{fullShare} f) := by
  rw [bigSep_univ_eq_bigSepL roles roles_all roles_nodup]
  exact Ring.slots_join_n (U := Pipeline.UD sig nD τ) (q := fullShare) (ℓ := (c : Thread nD τ).loc cc0_scratch0) slotSet
    slots_disjoint slots_cover roles roles_all roles_nodup (slotP c) (slotP_eq c)

/-- The ring before the first point is the ring buffer at any contents, the semaphores at zero and the adjacency matrix. -/
theorem ring_in :
    iprop((∃ f : Buf (Elt F) ((c : Thread nD τ).loc cc0_scratch0), ((c : Thread nD τ).loc cc0_scratch0) ↦{fullShare} f)
      ∗ Pipeline.ownSems0 (Ix := Unit) (Name := ℕ) (U := Pipeline.UD sig nD τ) (Lvl := ℕ) (Val := Elt F) (τ := τ) ownSem c
      ∗ (((c : Thread nD τ).loc main_arg1) ↦{fullShare} W)) ⊢ (ringAt c W 0 : sProp 𝕄) := by
  unfold ringAt; rw [if_pos rfl]; unfold Ring.At₀ Ring.free
  rw [homes_eq, bigSep_sep', cells_eq]
  iintro ⟨Hr, Hc, Hh⟩
  isplitl [Hh]; · iexact Hh
  isplitl [Hc]; · iexact Hc
  iapply (slots_in (F := F) c); iexact Hr

/-- The ring after the last point is the same three again. -/
theorem ring_out :
    (ringAt c W 125 : sProp 𝕄)
      ⊢ iprop((∃ f : Buf (Elt F) ((c : Thread nD τ).loc cc0_scratch0), ((c : Thread nD τ).loc cc0_scratch0) ↦{fullShare} f)
      ∗ Pipeline.ownSems0 (Ix := Unit) (Name := ℕ) (U := Pipeline.UD sig nD τ) (Lvl := ℕ) (Val := Elt F) (τ := τ) ownSem c
      ∗ (((c : Thread nD τ).loc main_arg1) ↦{fullShare} W)) := by
  unfold ringAt
  rw [if_neg (by decide), Ring.At_past_eq_free _ 7 _ _ _ 125 le_rfl]
  unfold Ring.free
  rw [homes_eq, bigSep_sep', cells_eq]
  iintro ⟨Hh, Hc, Hr⟩
  isplitl [Hr]; · iapply (slots_out (F := F) c); iexact Hr
  isplitl [Hc]; · iexact Hc
  iexact Hh

end

end Cert.KernelIdeal.Stream

end
-- ==== Proof.Stream.Block.lean ====
/- What one grid point computes: from row block `b` of the adjacency matrix, the support and the matching rows of the
   features, the 80 rows it stores. -/
module

public import proofs.«01_k».proof.Proof.Stream.Names
public import Idealize.ShloMosaic.Lib.VecWindow
public import Idealize.ShloMosaic.Lib.WholeRead

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The 80 rows of block `b` lie within the features. -/
theorem rows_inb (b : Fin 125) : ∀ a, (![80 * b.val, 0] : Fin 2 → Nat) a + S80x128.size a ≤ S10000x128.size a := by
  have := b.isLt; intro a; fin_cases a <;> simp <;> omega

/-- Rows `80 b` to `80 b + 79` of a feature matrix. -/
def rowsOf (x : Vec F S10000x128 .f32) (b : Fin 125) : Vec F S80x128 .f32 :=
  fun i => x ((Rect.unit (s := S10000x128) ![80 * b.val, 0] S80x128.size (rows_inb b)).toLoadRect.idx i)

/-- Rows `80 b` to `80 b + 79` of the adjacency matrix. -/
def blockOf {c : Dev nD} (W : BufOf (F := F) c adjM) (b : Fin 125) : Vec F S80x10000 .f32 := (blkM b).view.read (Elt F) W

/-- The rows a point stores: `0.95 x + 0.05 (A S)` on its 80 rows, `A` narrowed to the support's format first. -/
def outBlock (A : Vec F S80x10000 .f32) (sup : Vec F S10000x128 .bf16) (x : Vec F S80x128 .f32) : Vec F S80x128 .f32 :=
  addf (mulf (broadcast S80x128 (Scalar.ofBits .f32 0x3F733333#32)) x)
    (mulf (broadcast S80x128 (Scalar.ofBits .f32 0x3D4CCCCD#32))
      (matmul dot_S80x10000_S10000x128_S80x128_1_0_0_1_n_n none (truncf .bf16 A bitsLt_bf16_f32) sup
        (constant S80x128 .f32 0x00000000#32)))

/-- The kernel's stored value is `outBlock` of the slot's contents with the leading axis of length 1 dropped. -/
theorem pay2_eq (v : Vec F S1x80x10000 .f32) (A : Vec F S80x10000 .f32) (sup : Vec F S10000x128 .bf16)
    (x : Vec F S80x128 .f32) (h : shapeCast S80x10000 v shapeCasts_S1x80x10000_S80x10000 = A) :
    k0_pay2 v sup x = outBlock A sup x := by
  subst h; rfl

/-- Reading the ring at slot `s`, the leading axis dropped, is reading slot `s`. -/
theorem slot_view {c : Dev nD} (s : Fin 8) (f : BufOf (F := F) c (slotM s))
    {off : Fin 3 → Nat} (h : off = ![s.val, 0, 0]) (hi : ∀ a, off a + S1x80x10000.size a ≤ S8x80x10000.size a) :
    shapeCast S80x10000 (ringM.view.readAt (Elt F) (Rect.unit (s := S8x80x10000) off S1x80x10000.size hi).toLoadRect f)
      shapeCasts_S1x80x10000_S80x10000 = (slotM s).view.read (Elt F) f := by
  subst h; rfl

/-- Reading slot `s` of the ring, after a block was copied into it, gives that block. -/
theorem slot_read {c : Dev nD} (W : BufOf (F := F) c adjM) (s : Fin 8) (b : Fin 125) (g : BufOf (F := F) c (slotM s))
    {off : Fin 3 → Nat} (h : off = ![s.val, 0, 0]) (hi : ∀ a, off a + S1x80x10000.size a ≤ S8x80x10000.size a) :
    shapeCast S80x10000 (ringM.view.readAt (Elt F) (Rect.unit (s := S8x80x10000) off S1x80x10000.size hi).toLoadRect
      (landed c W s b g)) shapeCasts_S1x80x10000_S80x10000 = blockOf W b :=
  (slot_view s (landed c W s b g) h hi).trans (View.read_writes_whole (slotM s).view g _)

/-- What is read back from the output buffer after the point's store. -/
theorem out_read {c : Dev nD} (t : Fin grid0.N) {arg4 : Memref sig .tc .vmem S80x128 .f32}
    (f4 : arg4.view.ty.Contents (Elt F)) {arg1 : Memref sig .tc .vmem S10000x128 .f32} (harg1 : arg1.IsWhole)
    (x : Vec F S10000x128 .f32) (W : BufOf (F := F) c adjM) (g : BufOf (F := F) c (slotM (Ring.sl 8 t.val)))
    (sup : Vec F S10000x128 .bf16) :
    arg4.view.read (Elt F) (arg4.view.writes (Elt F) f4
      [⟨Rect.unit ![0, 0] S80x128.size inb_S80x128_S80x128_0_0,
        k0_pay2 (ringM.view.readAt (Elt F) (Rect.unit (s := S8x80x10000) (k0_off7 (grid0.coords t)) S1x80x10000.size
            (k0_off7_inb _)).toLoadRect (landed c W (Ring.sl 8 t.val) (Ring.bk 125 t.val) g)) sup
          (arg1.view.readAt (Elt F) (Rect.unit (s := S10000x128) (k0_off8 (grid0.coords t)) S80x128.size
            (k0_off8_inb _)).toLoadRect (harg1.unread x))⟩])
      = outBlock (blockOf W (Ring.bk 125 t.val)) sup (rowsOf x (Ring.bk 125 t.val)) := by
  rw [View.read_writes_full, pay2_eq _ _ _ _ (slot_read W _ _ g (off7_eq t) (k0_off7_inb _)),
    View.readAt_unit_congr_cast _ (off8_eq t)]
  congr 1
  funext i
  exact harg1.readAt_unread x _ i

end Cert.KernelIdeal.Stream

end
-- ==== Proof.Stream.RunB.lean ====
/- The body at a point that is not the first and starts a transfer (points 1 to 117). -/
module

public import proofs.«01_k».proof.Proof.Stream.Block

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- At such a point the body waits for its block, starts the block seven ahead into the slot the point before freed,
    and stores the point's 80 rows. The transfers of the six blocks between are not touched and not mentioned. -/
theorem runB (c : Dev nD) (t : Fin cfg0.N)
    (arg1 : Memref sig .tc .vmem S10000x128 .f32) (harg1 : arg1.IsWhole)
    (arg2 : Memref sig .tc .vmem S128x128 .f32) (harg2 : arg2.IsWhole)
    (arg4 : Memref sig .tc .vmem S80x128 .f32) (harg4 : arg4.IsWhole)
    (h0 : ¬first (grid0.coords t)) (h1 : more (grid0.coords t))
    (x : Vec F S10000x128 .f32) (w : Vec F S128x128 .f32) (sup : Vec F S10000x128 .bf16) (W : BufOf (F := F) c adjM)
    (R : Waits sig Unit) (K : PUnit → sProp 𝕄) :
    iprop(owns (c : Thread nD τ) arg1 fullShare x ∗ owns (c : Thread nD τ) arg2 fullShare w
        ∗ (∃ d, owns (c : Thread nD τ) arg4 fullShare d) ∗ owns (c : Thread nD τ) supM fullShare sup
        ∗ Ring.inflight (flightP c W) (Ring.sl 8 t.val) (Ring.bk 125 t.val)
        ∗ Ring.free (cellP c) (slotP c) (Ring.sl 8 (t.val + 7)) ∗ homeP c W (Ring.bk 125 (t.val + 7))
        ∗ owes (c : Thread nD τ) 0 R
        ∗ (iprop(owns (c : Thread nD τ) arg1 fullShare x ∗ owns (c : Thread nD τ) arg2 fullShare w
            ∗ owns (c : Thread nD τ) arg4 fullShare
                (outBlock (blockOf W (Ring.bk 125 t.val)) sup (rowsOf x (Ring.bk 125 t.val)))
            ∗ owns (c : Thread nD τ) supM fullShare sup
            ∗ Ring.inflight (flightP c W) (Ring.sl 8 (t.val + 7)) (Ring.bk 125 (t.val + 7))
            ∗ Ring.free (cellP c) (slotP c) (Ring.sl 8 t.val) ∗ homeP c W (Ring.bk 125 t.val)
            ∗ (∃ R', owes (c : Thread nD τ) 0 R')) -∗ K ⟨⟩))
      ⊢ wp frame (wpE (defs₀ (F := F)) Variants.none c none) Set.univ
          (cc0__gcn_body (grid0.coords t) arg1 harg1 arg2 harg2 adjM (Memref.isWhole_whole _) arg4 harg4 ringM
            (Memref.isWhole_whole _) supM (Memref.isWhole_whole _) cc0_scratch2) K := by
  haveI : Fact (¬first (grid0.coords t)) := ⟨h0⟩
  haveI : Fact (more (grid0.coords t)) := ⟨h1⟩
  simp only [cc0__gcn_body_eq_skeleton]; unfold cc0__gcn_body_skel
  have hcanon1 := cell_at (Ring.sl 8 t.val) (off1_eq t) (k0_off1_inb _)
  have hcanon2 := slot_at (Ring.sl 8 t.val) (off2_eq t) (k0_off2_inb _)
  have hcanon3 := blk_at (Ring.bk 125 t.val) (off3_eq t) (k0_off3_inb _)
  have hcanon4 := cell_at (Ring.sl 8 (t.val + 7)) (off4_eq t) (k0_off4_inb _ h1)
  have hcanon5 := slot_at (Ring.sl 8 (t.val + 7)) (off5_eq t) (k0_off5_inb _ h1)
  have hcanon6 := blk_at (Ring.bk 125 (t.val + 7)) (off6_eq t h1) (k0_off6_inb _ h1)
  unfold owns Ring.free Ring.inflight
  iintro ⟨⟨%f1, %hf1, H1⟩, ⟨%f2, %hf2, H2⟩, ⟨%d4, %f4, -, H4⟩, ⟨%f6, %hf6, H6⟩, ⟨%g0, Hf⟩, ⟨Hc, ⟨%g7, Hs⟩⟩, Hh, HW, Hk⟩
  obtain rfl := harg1.eq_unread hf1; obtain rfl := harg2.eq_unread hf2
  sl_exec (disch := first | sl_exact h0 | sl_exact h1)
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; swap; · iexact H4
    ipureintro
    rw [View.readAt_full, hf6]
    exact out_read t f4 harg1 x W _ sup
  isplitl [H6]
  · iexists _; isplitr; swap; · iexact H6
    ipureintro; exact hf6
  isplitl [Hc]
  · iexists _; iexact Hc
  isplitl [Hf Hf_dst]
  · isplitl [Hf]; · iexact Hf
    iexists _; iexact Hf_dst
  isplitl [Hf_src]; · iexact Hf_src
  iexists _; iexact HW

end Cert.KernelIdeal.Stream

end
-- ==== Proof.Stream.RunC.lean ====
/- The body at one of the last seven points (118 to 124), which start no transfer. -/
module

public import proofs.«01_k».proof.Proof.Stream.RunB

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- At such a point the body waits for its block and stores the point's 80 rows. -/
theorem runC (c : Dev nD) (t : Fin cfg0.N)
    (arg1 : Memref sig .tc .vmem S10000x128 .f32) (harg1 : arg1.IsWhole)
    (arg2 : Memref sig .tc .vmem S128x128 .f32) (harg2 : arg2.IsWhole)
    (arg4 : Memref sig .tc .vmem S80x128 .f32) (harg4 : arg4.IsWhole)
    (h0 : ¬first (grid0.coords t)) (h1 : ¬more (grid0.coords t))
    (x : Vec F S10000x128 .f32) (w : Vec F S128x128 .f32) (sup : Vec F S10000x128 .bf16) (W : BufOf (F := F) c adjM)
    (R : Waits sig Unit) (K : PUnit → sProp 𝕄) :
    iprop(owns (c : Thread nD τ) arg1 fullShare x ∗ owns (c : Thread nD τ) arg2 fullShare w
        ∗ (∃ d, owns (c : Thread nD τ) arg4 fullShare d) ∗ owns (c : Thread nD τ) supM fullShare sup
        ∗ Ring.inflight (flightP c W) (Ring.sl 8 t.val) (Ring.bk 125 t.val)
        ∗ owes (c : Thread nD τ) 0 R
        ∗ (iprop(owns (c : Thread nD τ) arg1 fullShare x ∗ owns (c : Thread nD τ) arg2 fullShare w
            ∗ owns (c : Thread nD τ) arg4 fullShare
                (outBlock (blockOf W (Ring.bk 125 t.val)) sup (rowsOf x (Ring.bk 125 t.val)))
            ∗ owns (c : Thread nD τ) supM fullShare sup
            ∗ Ring.free (cellP c) (slotP c) (Ring.sl 8 t.val) ∗ homeP c W (Ring.bk 125 t.val)
            ∗ (∃ R', owes (c : Thread nD τ) 0 R')) -∗ K ⟨⟩))
      ⊢ wp frame (wpE (defs₀ (F := F)) Variants.none c none) Set.univ
          (cc0__gcn_body (grid0.coords t) arg1 harg1 arg2 harg2 adjM (Memref.isWhole_whole _) arg4 harg4 ringM
            (Memref.isWhole_whole _) supM (Memref.isWhole_whole _) cc0_scratch2) K := by
  haveI : Fact (¬first (grid0.coords t)) := ⟨h0⟩
  haveI : Fact (¬more (grid0.coords t)) := ⟨h1⟩
  simp only [cc0__gcn_body_eq_skeleton]; unfold cc0__gcn_body_skel
  have hcanon1 := cell_at (Ring.sl 8 t.val) (off1_eq t) (k0_off1_inb _)
  have hcanon2 := slot_at (Ring.sl 8 t.val) (off2_eq t) (k0_off2_inb _)
  have hcanon3 := blk_at (Ring.bk 125 t.val) (off3_eq t) (k0_off3_inb _)
  unfold owns Ring.free Ring.inflight
  iintro ⟨⟨%f1, %hf1, H1⟩, ⟨%f2, %hf2, H2⟩, ⟨%d4, %f4, -, H4⟩, ⟨%f6, %hf6, H6⟩, ⟨%g0, Hf⟩, HW, Hk⟩
  obtain rfl := harg1.eq_unread hf1; obtain rfl := harg2.eq_unread hf2
  sl_exec (disch := first | sl_exact h0 | sl_exact h1)
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; swap; · iexact H4
    ipureintro
    rw [View.readAt_full, hf6]
    exact out_read t f4 harg1 x W _ sup
  isplitl [H6]
  · iexists _; isplitr; swap; · iexact H6
    ipureintro; exact hf6
  isplitl [Hf Hf_dst]
  · isplitl [Hf]; · iexact Hf
    iexists _; iexact Hf_dst
  isplitl [Hf_src]; · iexact Hf_src
  iexists _; iexact HW

end Cert.KernelIdeal.Stream

end
-- ==== Proof.Stream.RunA.lean ====
/- The body at the first point: it starts blocks 0 to 7, computes the support, waits for block 0. -/
module

public import proofs.«01_k».proof.Proof.Stream.RunC

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- At the first point the body starts blocks 0 to 7 into the eight slots, fills the support, waits for block 0 and
    stores the point's 80 rows. -/
theorem runA (c : Dev nD) (t : Fin cfg0.N)
    (arg1 : Memref sig .tc .vmem S10000x128 .f32) (harg1 : arg1.IsWhole)
    (arg2 : Memref sig .tc .vmem S128x128 .f32) (harg2 : arg2.IsWhole)
    (arg4 : Memref sig .tc .vmem S80x128 .f32) (harg4 : arg4.IsWhole)
    (ht : t.val = 0) (h0 : first (grid0.coords t)) (h1 : more (grid0.coords t))
    (x : Vec F S10000x128 .f32) (w : Vec F S128x128 .f32) (W : BufOf (F := F) c adjM)
    (R : Waits sig Unit) (K : PUnit → sProp 𝕄) :
    iprop(owns (c : Thread nD τ) arg1 fullShare x ∗ owns (c : Thread nD τ) arg2 fullShare w
        ∗ (∃ d, owns (c : Thread nD τ) arg4 fullShare d) ∗ (∃ d, owns (c : Thread nD τ) supM fullShare d)
        ∗ Ring.free (cellP c) (slotP c) (Ring.sl 8 t.val) ∗ homeP c W (Ring.bk 125 t.val)
        ∗ Ring.free (cellP c) (slotP c) (Ring.sl 8 (t.val + 1)) ∗ homeP c W (Ring.bk 125 (t.val + 1))
        ∗ Ring.free (cellP c) (slotP c) (Ring.sl 8 (t.val + 2)) ∗ homeP c W (Ring.bk 125 (t.val + 2))
        ∗ Ring.free (cellP c) (slotP c) (Ring.sl 8 (t.val + 3)) ∗ homeP c W (Ring.bk 125 (t.val + 3))
        ∗ Ring.free (cellP c) (slotP c) (Ring.sl 8 (t.val + 4)) ∗ homeP c W (Ring.bk 125 (t.val + 4))
        ∗ Ring.free (cellP c) (slotP c) (Ring.sl 8 (t.val + 5)) ∗ homeP c W (Ring.bk 125 (t.val + 5))
        ∗ Ring.free (cellP c) (slotP c) (Ring.sl 8 (t.val + 6)) ∗ homeP c W (Ring.bk 125 (t.val + 6))
        ∗ Ring.free (cellP c) (slotP c) (Ring.sl 8 (t.val + 7)) ∗ homeP c W (Ring.bk 125 (t.val + 7))
        ∗ owes (c : Thread nD τ) 0 R
        ∗ (iprop(owns (c : Thread nD τ) arg1 fullShare x ∗ owns (c : Thread nD τ) arg2 fullShare w
            ∗ owns (c : Thread nD τ) arg4 fullShare
                (outBlock (blockOf W (Ring.bk 125 t.val)) (k0_pay1 x w) (rowsOf x (Ring.bk 125 t.val)))
            ∗ owns (c : Thread nD τ) supM fullShare (k0_pay1 x w)
            ∗ Ring.inflight (flightP c W) (Ring.sl 8 (t.val + 1)) (Ring.bk 125 (t.val + 1))
            ∗ Ring.inflight (flightP c W) (Ring.sl 8 (t.val + 2)) (Ring.bk 125 (t.val + 2))
            ∗ Ring.inflight (flightP c W) (Ring.sl 8 (t.val + 3)) (Ring.bk 125 (t.val + 3))
            ∗ Ring.inflight (flightP c W) (Ring.sl 8 (t.val + 4)) (Ring.bk 125 (t.val + 4))
            ∗ Ring.inflight (flightP c W) (Ring.sl 8 (t.val + 5)) (Ring.bk 125 (t.val + 5))
            ∗ Ring.inflight (flightP c W) (Ring.sl 8 (t.val + 6)) (Ring.bk 125 (t.val + 6))
            ∗ Ring.inflight (flightP c W) (Ring.sl 8 (t.val + 7)) (Ring.bk 125 (t.val + 7))
            ∗ Ring.free (cellP c) (slotP c) (Ring.sl 8 t.val) ∗ homeP c W (Ring.bk 125 t.val)
            ∗ (∃ R', owes (c : Thread nD τ) 0 R')) -∗ K ⟨⟩))
      ⊢ wp frame (wpE (defs₀ (F := F)) Variants.none c none) Set.univ
          (cc0__gcn_body (grid0.coords t) arg1 harg1 arg2 harg2 adjM (Memref.isWhole_whole _) arg4 harg4 ringM
            (Memref.isWhole_whole _) supM (Memref.isWhole_whole _) cc0_scratch2) K := by
  haveI : Fact (first (grid0.coords t)) := ⟨h0⟩
  haveI : Fact (more (grid0.coords t)) := ⟨h1⟩
  simp only [cc0__gcn_body_eq_skeleton]; unfold cc0__gcn_body_skel
  rw [k0_part1_eq_skeleton]; unfold k0_part1_skel
  have hcanon1 := cell_at (Ring.sl 8 t.val) (off1_eq t) (k0_off1_inb _)
  have hcanon2 := slot_at (Ring.sl 8 t.val) (off2_eq t) (k0_off2_inb _)
  have hcanon3 := blk_at (Ring.bk 125 t.val) (off3_eq t) (k0_off3_inb _)
  have hcanon4 := cell_at (Ring.sl 8 (t.val + 7)) (off4_eq t) (k0_off4_inb _ h1)
  have hcanon5 := slot_at (Ring.sl 8 (t.val + 7)) (off5_eq t) (k0_off5_inb _ h1)
  have hcanon6 := blk_at (Ring.bk 125 (t.val + 7)) (off6_eq t h1) (k0_off6_inb _ h1)
  have hcanonC0 := cell_at (Ring.sl 8 t.val) (off := ![0]) (by rw [ht]; rfl) inb_S8_S1_0
  have hcanonS0 := slot_at (Ring.sl 8 t.val) (off := ![0, 0, 0]) (by rw [ht]; rfl) inb_S8x80x10000_S1x80x10000_0_0_0
  have hcanonB0 := blk_at (Ring.bk 125 t.val) (off := ![0, 0]) (by rw [ht]; rfl) inb_S10000x10000_S80x10000_0_0
  have hcanonC1 := cell_at (Ring.sl 8 (t.val + 1)) (off := ![1]) (by rw [ht]; rfl) inb_S8_S1_1
  have hcanonS1 := slot_at (Ring.sl 8 (t.val + 1)) (off := ![1, 0, 0]) (by rw [ht]; rfl) inb_S8x80x10000_S1x80x10000_1_0_0
  have hcanonB1 := blk_at (Ring.bk 125 (t.val + 1)) (off := ![80, 0]) (by rw [ht]; rfl) inb_S10000x10000_S80x10000_80_0
  have hcanonC2 := cell_at (Ring.sl 8 (t.val + 2)) (off := ![2]) (by rw [ht]; rfl) inb_S8_S1_2
  have hcanonS2 := slot_at (Ring.sl 8 (t.val + 2)) (off := ![2, 0, 0]) (by rw [ht]; rfl) inb_S8x80x10000_S1x80x10000_2_0_0
  have hcanonB2 := blk_at (Ring.bk 125 (t.val + 2)) (off := ![160, 0]) (by rw [ht]; rfl) inb_S10000x10000_S80x10000_160_0
  have hcanonC3 := cell_at (Ring.sl 8 (t.val + 3)) (off := ![3]) (by rw [ht]; rfl) inb_S8_S1_3
  have hcanonS3 := slot_at (Ring.sl 8 (t.val + 3)) (off := ![3, 0, 0]) (by rw [ht]; rfl) inb_S8x80x10000_S1x80x10000_3_0_0
  have hcanonB3 := blk_at (Ring.bk 125 (t.val + 3)) (off := ![240, 0]) (by rw [ht]; rfl) inb_S10000x10000_S80x10000_240_0
  have hcanonC4 := cell_at (Ring.sl 8 (t.val + 4)) (off := ![4]) (by rw [ht]; rfl) inb_S8_S1_4
  have hcanonS4 := slot_at (Ring.sl 8 (t.val + 4)) (off := ![4, 0, 0]) (by rw [ht]; rfl) inb_S8x80x10000_S1x80x10000_4_0_0
  have hcanonB4 := blk_at (Ring.bk 125 (t.val + 4)) (off := ![320, 0]) (by rw [ht]; rfl) inb_S10000x10000_S80x10000_320_0
  have hcanonC5 := cell_at (Ring.sl 8 (t.val + 5)) (off := ![5]) (by rw [ht]; rfl) inb_S8_S1_5
  have hcanonS5 := slot_at (Ring.sl 8 (t.val + 5)) (off := ![5, 0, 0]) (by rw [ht]; rfl) inb_S8x80x10000_S1x80x10000_5_0_0
  have hcanonB5 := blk_at (Ring.bk 125 (t.val + 5)) (off := ![400, 0]) (by rw [ht]; rfl) inb_S10000x10000_S80x10000_400_0
  have hcanonC6 := cell_at (Ring.sl 8 (t.val + 6)) (off := ![6]) (by rw [ht]; rfl) inb_S8_S1_6
  have hcanonS6 := slot_at (Ring.sl 8 (t.val + 6)) (off := ![6, 0, 0]) (by rw [ht]; rfl) inb_S8x80x10000_S1x80x10000_6_0_0
  have hcanonB6 := blk_at (Ring.bk 125 (t.val + 6)) (off := ![480, 0]) (by rw [ht]; rfl) inb_S10000x10000_S80x10000_480_0
  unfold owns Ring.free Ring.inflight
  iintro ⟨⟨%f1, %hf1, H1⟩, ⟨%f2, %hf2, H2⟩, ⟨%d4, %f4, -, H4⟩, ⟨%d6, %f6, -, H6⟩, ⟨Hc0, ⟨%g0, Hs0⟩⟩, Hh0, ⟨Hc1, ⟨%g1, Hs1⟩⟩, Hh1, ⟨Hc2, ⟨%g2, Hs2⟩⟩, Hh2, ⟨Hc3, ⟨%g3, Hs3⟩⟩, Hh3, ⟨Hc4, ⟨%g4, Hs4⟩⟩, Hh4, ⟨Hc5, ⟨%g5, Hs5⟩⟩, Hh5, ⟨Hc6, ⟨%g6, Hs6⟩⟩, Hh6, ⟨Hc7, ⟨%g7, Hs7⟩⟩, Hh7, HW, Hk⟩
  obtain rfl := harg1.eq_unread hf1; obtain rfl := harg2.eq_unread hf2
  sl_exec (disch := first | sl_exact h0 | sl_exact h1)
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; swap; · iexact H4
    ipureintro
    unfold runA.sl.v19 runA.sl.H6_1
    rw [View.readCov_full, View.readAt_full, View.readAt_full, hf1, hf2]
    exact out_read t f4 harg1 x W _ _
  isplitl [H6]
  · iexists _; isplitr; swap; · iexact H6
    ipureintro
    unfold runA.sl.H6_1
    rw [View.read_writes_full, View.readAt_full, View.readAt_full, hf1, hf2]
  isplitl [Hc1]; · iexists _; iexact Hc1
  isplitl [Hc2]; · iexists _; iexact Hc2
  isplitl [Hc3]; · iexists _; iexact Hc3
  isplitl [Hc4]; · iexists _; iexact Hc4
  isplitl [Hc5]; · iexists _; iexact Hc5
  isplitl [Hc6]; · iexists _; iexact Hc6
  isplitl [Hc7]; · iexists _; iexact Hc7
  isplitl [Hc0 Hs0]
  · isplitl [Hc0]; · iexact Hc0
    iexists _; iexact Hs0
  isplitl [Hh0]; · iexact Hh0
  iexists _; iexact HW

end Cert.KernelIdeal.Stream

end
-- ==== Proof.Stream.Data.lean ====
/- The proof data of the launch, the body at every point, and the run. -/
module

public import proofs.«01_k».proof.Proof.Stream.Steps
public import proofs.«01_k».proof.Proof.Stream.RunA
public import proofs.«01_k».proof.Proof.Gen.KernelIdeal.Frame
public import Idealize.ShloMosaic.Lib.Claim

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays as the kernel finds them -/

/-- The features. -/
abbrev xIn (c : Dev nD) : Vec F S10000x128 .f32 := V m c main_arg0
/-- The weights. -/
abbrev wIn (c : Dev nD) : Vec F S128x128 .f32 := V m c main_arg2
/-- The support computed from them. -/
abbrev supIn (c : Dev nD) : Vec F S10000x128 .bf16 := k0_pay1 (xIn m c) (wIn m c)
/-- The adjacency matrix. -/
abbrev adjIn (c : Dev nD) : BufOf (F := F) c adjM := V m c main_arg1
/-- The 80 rows that point `t` stores. -/
abbrev outIn (c : Dev nD) (t : ℕ) : Vec F S80x128 .f32 :=
  outBlock (blockOf (adjIn m c) (Ring.bk 125 t)) (supIn m c) (rowsOf (xIn m c) (Ring.bk 125 t))

/-- The features' window is the whole array, index for index, -/
theorem emb_x (t : Fin cfg0.N) (j : S10000x128.Idx) : ((cfg0.win 0).blk t).view.emb j = j := by
  funext a; apply Fin.ext
  match a with
  | ⟨0, _⟩ => show 0 * 10000 + 1 * (j 0).val = (j 0).val; omega
  | ⟨1, _⟩ => show 0 * 128 + 1 * (j 1).val = (j 1).val; omega
/-- and so is the weights'. -/
theorem emb_w (t : Fin cfg0.N) (j : S128x128.Idx) : ((cfg0.win 1).blk t).view.emb j = j := by
  funext a; apply Fin.ext
  match a with
  | ⟨0, _⟩ => show 0 * 128 + 1 * (j 0).val = (j 0).val; omega
  | ⟨1, _⟩ => show 0 * 128 + 1 * (j 1).val = (j 1).val; omega

/-- The block of the features' window is the whole array at every point, -/
theorem block_x (c : Dev nD) (t : Fin cfg0.N) : iblk m c 0 t = xIn m c := by
  funext j; show V m c main_arg0 (((cfg0.win 0).blk t).view.emb j) = V m c main_arg0 j; rw [emb_x]
/-- and so is the block of the weights' window. -/
theorem block_w (c : Dev nD) (t : Fin cfg0.N) : iblk m c 1 t = wIn m c := by
  funext j; show V m c main_arg2 (((cfg0.win 1).blk t).view.emb j) = V m c main_arg2 j; rw [emb_w]

/-! ## The proof data -/

/-- What is held between points: the support (anything before the first point, the product after it), the generator
    register, and the ring. -/
def between (c : Dev nD) (k : ℕ) : sProp 𝕄 :=
  iprop((if k = 0 then iprop(∃ d, owns (c : Thread nD τ) supM fullShare d) else owns (c : Thread nD τ) supM fullShare (supIn m c))
    ∗ (∃ r, prngReg c r) ∗ ringAt c (adjIn m c) k)

/-- The proof data: each array as the kernel finds it; after point `t` the two inputs' buffers unchanged and the output's
    buffer at the point's 80 rows; between points `between`; no debt; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outIn m c t.val
  Φ t := between m c t.val
  q _ := fullShare
  owed _ := 0

/-- The proof data start each array at what the kernel finds there. -/
theorem A_eq (c : Dev nD) (w : Fin cfg0.W) : (dats m 0 c).A w = V m c (Pipeline.arrRef spec0 w) := by
  dsimp only [dats]
/-- What is held before point `t`, -/
theorem between_start (c : Dev nD) (t : Fin cfg0.N) : (dats m 0 c).Φ t.castSucc = between m c t.val := by
  dsimp only [dats]; simp only [Fin.coe_castSucc]
/-- and after it. -/
theorem between_end (c : Dev nD) (t : Fin cfg0.N) : (dats m 0 c).Φ t.succ = between m c (t.val + 1) := by
  dsimp only [dats]; simp only [Fin.val_succ]
/-- After a point the features' buffer holds its block still, -/
theorem after_x (c : Dev nD) (t : Fin cfg0.N) : (dats m 0 c).after 0 t = iblk m c 0 t := by dsimp only [dats]
/-- and so does the weights' buffer; -/
theorem after_w (c : Dev nD) (t : Fin cfg0.N) : (dats m 0 c).after 1 t = iblk m c 1 t := by dsimp only [dats]
/-- the output's buffer holds the point's 80 rows. -/
theorem after_out (c : Dev nD) (t : Fin cfg0.N) : (dats m 0 c).after 2 t = outIn m c t.val := by dsimp only [dats]

/-- Before point `t` the features' buffer holds the features, -/
theorem before_x (c : Dev nD) (t : Fin cfg0.N) (d) : (dats m 0 c).before 0 t d = xIn m c :=
  (((dats m 0 c).before_in_eq_fetched 0 rfl (fun _ => rfl) (fun _ _ _ => rfl)
    (fun t => by rw [after_x]; unfold Dat.blockOf iblk; rw [A_eq]; try rfl) t d).trans
    (by unfold Dat.fetched Dat.blockOf; rw [A_eq]; try rfl)).trans (block_x m c t)
/-- and the weights' buffer the weights. -/
theorem before_w (c : Dev nD) (t : Fin cfg0.N) (d) : (dats m 0 c).before 1 t d = wIn m c :=
  (((dats m 0 c).before_in_eq_fetched 1 rfl (fun _ => rfl) (fun _ _ _ => rfl)
    (fun t => by rw [after_w]; unfold Dat.blockOf iblk; rw [A_eq]; try rfl) t d).trans
    (by unfold Dat.fetched Dat.blockOf; rw [A_eq]; try rfl)).trans (block_w m c t)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1200000 in
/-- The body at any point takes the one to the other: the first point by `runA`, the points that start a transfer by
    `runB`, the last seven by `runC`, what a point does not touch carried over. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [after_x, after_w, after_out, block_x, block_w, between_start m c t, between_end m c t]
  unfold Dat.owesAt Pipeline.owesWithin
  rw [show (dats m 0 c).owed t.castSucc = 0 from rfl, show (dats m 0 c).owed t.succ = 0 from rfl]
  unfold between
  rw [if_neg (Nat.succ_ne_zero t.val)]
  have hN : t.val < 125 := Nat.lt_of_lt_of_eq t.isLt N_0
  by_cases h0 : t.val = 0
  · rw [if_pos h0, ring_first c _ t.val h0, ring_second c _ t.val h0]
    iintro ⟨⟨HS, Hg, ⟨Hh0, Hh1, Hh2, Hh3, Hh4, Hh5, Hh6, Hh7, Hhs⟩, Hf0, Hf1, Hf2, Hf3, Hf4, Hf5, Hf6, Hf7⟩, ⟨%R, -, HW⟩,
      ⟨%d0, H0⟩, ⟨%d1, H1⟩, ⟨%d2, H2⟩⟩
    iapply (runA c t _ _ _ _ _ _ h0 ((first_iff t).mpr h0) ((more_iff t).mpr (by omega)) (xIn m c) (wIn m c) (adjIn m c) R _)
    isplitl [H0]; · iexact H0
    isplitl [H1]; · iexact H1
    isplitl [H2]; · iexists _; iexact H2
    isplitl [HS]; · iexact HS
    isplitl [Hf0]; · iexact Hf0
    isplitl [Hh0]; · iexact Hh0
    isplitl [Hf1]; · iexact Hf1
    isplitl [Hh1]; · iexact Hh1
    isplitl [Hf2]; · iexact Hf2
    isplitl [Hh2]; · iexact Hh2
    isplitl [Hf3]; · iexact Hf3
    isplitl [Hh3]; · iexact Hh3
    isplitl [Hf4]; · iexact Hf4
    isplitl [Hh4]; · iexact Hh4
    isplitl [Hf5]; · iexact Hf5
    isplitl [Hh5]; · iexact Hh5
    isplitl [Hf6]; · iexact Hf6
    isplitl [Hh6]; · iexact Hh6
    isplitl [Hf7]; · iexact Hf7
    isplitl [Hh7]; · iexact Hh7
    isplitl [HW]; · iexact HW
    iintro ⟨H0, H1, H2, HS, Hf1, Hf2, Hf3, Hf4, Hf5, Hf6, Hf7, Hf0, Hh0, ⟨%R', HW⟩⟩
    isplitr [H0 H1 H2 HW]
    · isplitl [HS]; · iexact HS
      isplitl [Hg]; · iexact Hg
      isplitl [Hh0 Hhs]
      · isplitl [Hh0]; · iexact Hh0
        iexact Hhs
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      iexact Hf0
    isplitl [HW]
    · iexists R'; isplitr; · ipureintro; exact fun _ _ => Or.inl trivial
      iexact HW
    isplitl [H0]; · iexact H0
    isplitl [H1]; · iexact H1
    iexact H2
  rw [if_neg h0]
  by_cases h1 : t.val < 118
  · iintro ⟨⟨HS, Hg, Hr⟩, ⟨%R, -, HW⟩, ⟨%d0, H0⟩, ⟨%d1, H1⟩, ⟨%d2, H2⟩⟩
    ihave Hr' := (ring_here c (adjIn m c) t.val h0 (by omega)) $$ Hr
    icases Hr' with ⟨Hb, Hf, Hh, Ho⟩
    iapply (runB c t _ _ _ _ _ _ (fun h => h0 ((first_iff t).mp h)) ((more_iff t).mpr h1) (xIn m c) (wIn m c) (supIn m c)
      (adjIn m c) R _)
    isplitl [H0]; · iexact H0
    isplitl [H1]; · iexact H1
    isplitl [H2]; · iexists _; iexact H2
    isplitl [HS]; · iexact HS
    isplitl [Hb]; · iexact Hb
    isplitl [Hf]; · iexact Hf
    isplitl [Hh]; · iexact Hh
    isplitl [HW]; · iexact HW
    iintro ⟨H0, H1, H2, HS, Hb, Hf, Hh, ⟨%R', HW⟩⟩
    isplitr [H0 H1 H2 HW]
    · isplitl [HS]; · iexact HS
      isplitl [Hg]; · iexact Hg
      iapply (ring_next c (adjIn m c) t.val (by omega))
      isplitl [Hb]; · iexact Hb
      isplitl [Hf]; · iexact Hf
      isplitl [Hh]; · iexact Hh
      iexact Ho
    isplitl [HW]
    · iexists R'; isplitr; · ipureintro; exact fun _ _ => Or.inl trivial
      iexact HW
    isplitl [H0]; · iexact H0
    isplitl [H1]; · iexact H1
    iexact H2
  · iintro ⟨⟨HS, Hg, Hr⟩, ⟨%R, -, HW⟩, ⟨%d0, H0⟩, ⟨%d1, H1⟩, ⟨%d2, H2⟩⟩
    ihave Hr' := (ring_here_last c (adjIn m c) t.val h0 hN) $$ Hr
    icases Hr' with ⟨Hb, Hf, Ho⟩
    iapply (runC c t _ _ _ _ _ _ (fun h => h0 ((first_iff t).mp h)) (fun h => h1 ((more_iff t).mp h)) (xIn m c) (wIn m c)
      (supIn m c) (adjIn m c) R _)
    isplitl [H0]; · iexact H0
    isplitl [H1]; · iexact H1
    isplitl [H2]; · iexists _; iexact H2
    isplitl [HS]; · iexact HS
    isplitl [Hb]; · iexact Hb
    isplitl [HW]; · iexact HW
    iintro ⟨H0, H1, H2, HS, Hb, Hh, ⟨%R', HW⟩⟩
    isplitr [H0 H1 H2 HW]
    · isplitl [HS]; · iexact HS
      isplitl [Hg]; · iexact Hg
      iapply (ring_next_last c (adjIn m c) t.val (by omega) hN)
      isplitl [Hb]; · iexact Hb
      isplitl [Hh]; · iexact Hh
      isplitl [Hf]; · iexact Hf
      iexact Ho
    isplitl [HW]
    · iexists R'; isplitr; · ipureintro; exact fun _ _ => Or.inl trivial
      iexact HW
    isplitl [H0]; · iexact H0
    isplitl [H1]; · iexact H1
    iexact H2

/-- The body the launch calls at point `t` is the kernel's body on the buffers of that point. -/
theorem defs₀_row (t : Fin cfg0.N) : defs₀ (F := F) .tc cfg0.body (cfg0.bodyArgs t (cfg0.slots t)) = bodyAt0 t := by
  unfold defs₀; rw [Defs.onTc_tc]

/-- So the library's obligation on the body holds at every point. -/
theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

/-! ## The launch -/

/-- The kernel's own semaphores are eight distinct ones, none of them a window's. -/
theorem ownSemFacts : Pipeline.OwnSemFacts spec0 ownSem := by decide
/-- The one array the kernel reads from HBM itself. -/
def hbmRefs : Finset (Ref sig .tc) := {main_arg1}
/-- It is neither a window's array nor a scoped buffer. -/
theorem hbmRefs_sub : hbmRefs ⊆ Pipeline.restRefs sig spec0 := by decide

/-- What the launch hands the kernel, listed: the two VMEM buffers, the register, the semaphores, the adjacency matrix. -/
theorem handed_eq (c : Dev nD) :
    (Pipeline.ΦD ownSem spec0 hbmRefs (V m) c : sProp 𝕄)
      = iprop(((∃ f : Buf (Elt F) ((c : Thread nD τ).loc cc0_scratch0), ((c : Thread nD τ).loc cc0_scratch0) ↦{fullShare} f)
          ∗ (∃ d, owns (c : Thread nD τ) supM fullShare d)) ∗ (∃ r, prngReg c r)
        ∗ Pipeline.ownSems0 (Ix := Unit) (Name := ℕ) (U := Pipeline.UD sig nD τ) (Lvl := ℕ) (Val := Elt F) (τ := τ) ownSem c
        ∗ (((c : Thread nD τ).loc main_arg1) ↦{fullShare} adjIn m c)) := by
  rw [Pipeline.ΦD_eq, scopedRest0_eq]
  simp only [owns_whole]
  rw [show (bigSep hbmRefs (fun b => ((c : Thread nD τ).loc b) ↦{fullShare} V m c b) : sProp 𝕄)
    = (((c : Thread nD τ).loc main_arg1) ↦{fullShare} adjIn m c) from by
      rw [BI.bigSep_eq_bigSepL_of_eq [main_arg1] (by decide) (by decide)]; rfl]
  rfl

/-- What the launch hands over is what is held before the first point, -/
theorem enter (c : Dev nD) : Pipeline.ΦD ownSem spec0 hbmRefs (V m) c ⊢ (dats m 0 c).Φ 0 := by
  rw [handed_eq, show (dats m 0 c).Φ 0 = between m c 0 from rfl]
  unfold between
  rw [if_pos rfl]
  iintro ⟨⟨Hb, HS⟩, Hg, Hc, Ha⟩
  isplitl [HS]; · iexact HS
  isplitl [Hg]; · iexact Hg
  iapply (ring_in c (adjIn m c))
  isplitl [Hb]; · iexact Hb
  isplitl [Hc]; · iexact Hc
  iexact Ha
/-- and what is held after the last point is what the launch takes back. -/
theorem leave (c : Dev nD) : (dats m 0 c).Φ (Fin.last cfg0.N) ⊢ Pipeline.ΦD ownSem spec0 hbmRefs (V m) c := by
  rw [handed_eq, show (dats m 0 c).Φ (Fin.last cfg0.N) = between m c grid0.N from rfl, show grid0.N = 125 from N_0]
  unfold between
  rw [if_neg (by decide)]
  iintro ⟨HS, Hg, Hr⟩
  ihave Hr' := (ring_out c (adjIn m c)) $$ Hr
  icases Hr' with ⟨Hb, Hc, Ha⟩
  isplitl [Hb HS]
  · isplitl [Hb]; · iexact Hb
    iexists _; iexact HS
  isplitl [Hg]; · iexact Hg
  isplitl [Hc]; · iexact Hc
  iexact Ha

/-- The program is the launch alone: nothing comes before it and nothing after it. -/
theorem main_eq : Pipeline.HMain (Ix := Unit) (Name := ℕ) (U := Pipeline.UD sig nD τ) (Lvl := ℕ) cfgs 0 defs₀ Variants.none m
    (main (F := F)) (V m) :=
  Pipeline.hmain_region cfgs 0 defs₀ Variants.none m main fun c => (main_chain c).trans rfl

set_option backward.isDefEq.respectTransparency.types false in
/-- The run: every execution ends, each window's array at the library's account of the write-backs, every other array
    as launched, every semaphore at zero. -/
theorem run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 ownSem defs₀ Variants.none ownSemFacts hbmRefs hbmRefs_sub
    m ρ main (hbody := fun c => (body_obligation m c).loose) (hshare := fun c => (dats m 0 c).share_full fun _ => rfl)
    (howed := fun _ _ => rfl) (V := V m) (hmain := main_eq m) (hA := A_eq m) (hin := enter m) (hout := leave m)

/-- Of the run: the result array at the library's account of its write-backs, the arguments unchanged, every semaphore
    at zero. -/
theorem run_result : θ_run defs (onTc (τ := τ) (main (F := F))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 2,
      ((h.1 c).1 0).trans (((dats m 0 c).arrAt_in 0 rfl _).trans (A_eq m c 0)),
      (h.1 c).2 main_arg1 (Pipeline.mem_restRefs_of main_arg1 (by decide) (by decide)),
      ((h.1 c).1 1).trans (((dats m 0 c).arrAt_in 1 rfl _).trans (A_eq m c 1))⟩, h.2⟩) (run m ρ)

end Cert.KernelIdeal.Stream

end
-- ==== Proof.Layer.lean ====
/- The layer as mathematics over the extended reals: support `x w`, aggregation `A (x w)`, and the blend of the
   aggregation with the features. Every program's value is compared with `layer`. -/
module

public import proofs.«01_k».proof.Proof.Gen.KernelIdeal
public import Idealize.ShloMosaic.Lib.ValueIdx

@[expose] public section

noncomputable section

namespace Cert.Layer

open Cert.KernelIdeal
open Idealize.ShloMosaic Idealize.ShloMosaic.ValueIdx

/-- Entry `(k, q)` of the support, the product of the features by the weights. -/
def support (x : Vec Ideal S10000x128 .f32) (w : Vec Ideal S128x128 .f32) (k : Fin 10000) (q : Fin 128) : EReal :=
  ∑ l : Fin 128, x (ix2 k l) * w (ix2 l q)

/-- Entry `(p, q)` of the aggregation, the product of the adjacency matrix by the support. -/
def aggregate (A : Vec Ideal S10000x10000 .f32) (x : Vec Ideal S10000x128 .f32) (w : Vec Ideal S128x128 .f32)
    (p : Fin 10000) (q : Fin 128) : EReal :=
  ∑ k : Fin 10000, A (ix2 p k) * support x w k q

/-- The layer: the features and the aggregation, weighted by the two constants and added. -/
def layer (A : Vec Ideal S10000x10000 .f32) (x : Vec Ideal S10000x128 .f32) (w : Vec Ideal S128x128 .f32) :
    Vec Ideal S10000x128 .f32 :=
  fun i => Ideal.ofBits .f32 0x3F733333#32 * x i + Ideal.ofBits .f32 0x3D4CCCCD#32 * aggregate A x w (i 0) (i 1)

end Cert.Layer

end
-- ==== Proof.Stream.Value.lean ====
/- What the kernel computes over the extended reals: an entry of the support, and an entry of a stored block. -/
module

public import proofs.«01_k».proof.Proof.Stream.Block
public import proofs.«01_k».proof.Proof.Layer
public import Idealize.ShloMosaic.Lib.MatmulPlain
public import Idealize.ShloMosaic.Lib.Pipeline.Value

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Layer

/-! ## The two products -/

/-- The kernel's first product is of a matrix by a matrix. -/
theorem dims_support : dot_S10000x128_S128x128_S10000x128_1_0_0_1_n_n = DotDims.plain 10000 128 128 := rfl
/-- The second one too. -/
theorem dims_block : dot_S80x10000_S10000x128_S80x128_1_0_0_1_n_n = DotDims.plain 80 10000 128 := rfl

/-- The kernel's support, which it rounds and keeps in scratch, is at its exact values the product `x w`. -/
theorem support_apply (x : Vec Ideal S10000x128 .f32) (w : Vec Ideal S128x128 .f32) (k : Fin 10000) (q : Fin 128) :
    (k0_pay1 x w : FVec Ideal S10000x128 .bf16) (ix2 k q) = support x w k q := by
  dsimp only [k0_pay1]
  rw [shapeCast_self, truncf_apply]
  simp only [matmul]
  rw [dims_support, Ideal.matmul_plain_apply, constant_apply, Ideal.ofBits_zero_f32, zero_add]
  rfl

/-- An entry of a stored block: the blend of the features' entry and the product of the block's row by the support. -/
theorem outBlock_apply (A : Vec Ideal S80x10000 .f32) (sup : Vec Ideal S10000x128 .bf16) (x : Vec Ideal S80x128 .f32)
    (r : Fin 80) (q : Fin 128) :
    outBlock A sup x (ix2 r q) = Ideal.ofBits .f32 0x3F733333#32 * x (ix2 r q)
      + Ideal.ofBits .f32 0x3D4CCCCD#32 * ∑ k : Fin 10000, A (ix2 r k) * (sup (ix2 k q) : EReal) := by
  unfold outBlock
  rw [addf_apply, mulf_apply, mulf_apply, broadcast_apply, broadcast_apply]
  simp only [matmul]
  rw [dims_block, Ideal.matmul_plain_apply, constant_apply, Ideal.ofBits_zero_f32, zero_add]
  rfl

/-! ## The rows a block takes -/

/-- The row of the whole array that row `r` of block `b` is. -/
def rowOf (b : Fin 125) (r : Fin 80) : Fin 10000 := ⟨80 * b.val + r.val, by have := b.isLt; have := r.isLt; omega⟩

/-- Row `r` of the features' block `b` is row `80 b + r` of the features, -/
theorem rowsOf_apply (x : Vec F S10000x128 .f32) (b : Fin 125) (r : Fin 80) (q : Fin 128) :
    rowsOf x b (ix2 r q) = x (ix2 (rowOf b r) q) := by
  unfold rowsOf
  refine congrArg x (funext fun a => Fin.ext ?_)
  match a with
  | ⟨0, _⟩ => show 80 * b.val + 1 * r.val = 80 * b.val + r.val; omega
  | ⟨1, _⟩ => show 0 + 1 * q.val = q.val; omega

/-- and row `r` of the adjacency matrix's block `b` is its row `80 b + r`. -/
theorem blockOf_apply {c : Dev nD} (W : Vec F S10000x10000 .f32) (b : Fin 125) (r : Fin 80) (k : Fin 10000) :
    blockOf (c := c) W b (ix2 r k) = W (ix2 (rowOf b r) k) := by
  unfold blockOf
  show W ((blkM b).view.emb (ix2 r k)) = _
  refine congrArg W (funext fun a => Fin.ext ?_)
  match a with
  | ⟨0, _⟩ => show 80 * b.val + 1 * r.val = 80 * b.val + r.val; omega
  | ⟨1, _⟩ => show 0 + 1 * k.val = k.val; omega

/-- So what the kernel stores for block `b` is the layer's rows `80 b` to `80 b + 79`. -/
theorem outBlock_layer {c : Dev nD} (A : Vec Ideal S10000x10000 .f32) (x : Vec Ideal S10000x128 .f32)
    (w : Vec Ideal S128x128 .f32) (b : Fin 125) (r : Fin 80) (q : Fin 128) :
    outBlock (blockOf (c := c) A b) (k0_pay1 x w) (rowsOf x b) (ix2 r q) = layer A x w (ix2 (rowOf b r) q) := by
  rw [outBlock_apply, rowsOf_apply]
  unfold layer aggregate
  refine congrArg (fun s => _ + _ * s) (Finset.sum_congr rfl fun k _ => ?_)
  rw [blockOf_apply, support_apply]

end Cert.KernelIdeal.Stream

end
-- ==== Proof.Stream.Result.lean ====
/- The result array after the run: its blocks are the layer's, and they cover it. -/
module

public import proofs.«01_k».proof.Proof.Stream.Data
public import proofs.«01_k».proof.Proof.Stream.Value

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Layer

variable (m : (ℓ : Loc nD τ sig) → Buf (Elt Ideal) ℓ) (ρ : Dev nD → PrngReg)

/-- A grid point as a block number. -/
def blockNo (t : Fin cfg0.N) : Fin 125 := ⟨t.val, Nat.lt_of_lt_of_eq t.isLt N_0⟩
/-- It is the block the ring serves at that point. -/
theorem blockNo_eq (t : Fin cfg0.N) : Ring.bk 125 t.val = blockNo t :=
  Fin.ext (Nat.mod_eq_of_lt (Nat.lt_of_lt_of_eq t.isLt N_0))

/-- The block index of the result's window at point `t` is `(t, 0)`. -/
theorem out_index : ∀ t : Fin cfg0.N, win0_2.index t (0 : Fin 2) = t.val ∧ win0_2.index t (1 : Fin 2) = 0 := by
  decide +kernel

/-- So row `r` of the result's block at point `t` is row `80 t + r` of the result. -/
theorem emb_out (t : Fin cfg0.N) (r : Fin 80) (q : Fin 128) :
    ((cfg0.win 2).blk t).view.emb (ix2 r q) = ix2 (rowOf (blockNo t) r) q := by
  obtain ⟨e0, e1⟩ := out_index t
  funext a; apply Fin.ext
  match a with
  | ⟨0, _⟩ => show win0_2.index t (0 : Fin 2) * 80 + 1 * r.val = 80 * t.val + r.val; omega
  | ⟨1, _⟩ => show win0_2.index t (1 : Fin 2) * 128 + 1 * q.val = q.val; omega

/-- The layer of the arrays as the kernel finds them. -/
abbrev layerIn (c : Dev nD) : Vec Ideal S10000x128 .f32 := layer (adjIn m c) (xIn m c) (wIn m c)

/-- What point `t` writes back is its block of the layer. -/
theorem flushed_layer (c : Dev nD) (t : Fin cfg0.N) :
    (dats m 0 c).flushed 2 t = ((cfg0.win 2).blk t).view.read (Elt Ideal) (layerIn m c) := by
  unfold Dat.flushed
  rw [after_out]
  funext j
  obtain ⟨r, q, rfl⟩ : ∃ (r : Fin 80) (q : Fin 128), j = ix2 r q := ⟨j 0, j 1, eq_ix2 j⟩
  show outIn m c t.val (ix2 r q) = layerIn m c (((cfg0.win 2).blk t).view.emb (ix2 r q))
  rw [emb_out, outIn, blockNo_eq]
  exact outBlock_layer (c := c) _ _ _ _ r q

/-- Every entry of the result lies in the block of some point: row `p` in block `p / 80`. -/
theorem covered (i : S10000x128.Idx) :
    ∃ t : Fin cfg0.N, (cfg0.win 2).flush t = true ∧ i ∈ ((cfg0.win 2).blk t).view.set := by
  obtain ⟨p, q, rfl⟩ : ∃ (p : Fin 10000) (q : Fin 128), i = ix2 p q := ⟨i 0, i 1, eq_ix2 i⟩
  have hp := p.isLt
  let t : Fin cfg0.N := ⟨p.val / 80, Nat.lt_of_lt_of_eq (by omega : p.val / 80 < 125) N_0.symm⟩
  let r : Fin 80 := ⟨p.val % 80, Nat.mod_lt _ (by decide)⟩
  have hr : rowOf (blockNo t) r = p := Fin.ext (by show 80 * (p.val / 80) + p.val % 80 = p.val; omega)
  refine ⟨t, flush0_2 t, ?_⟩
  have h := ((cfg0.win 2).blk t).view.emb_mem_set (ix2 r q)
  rwa [emb_out, hr] at h

/-- The result array after the run is the layer of the arguments. -/
theorem final (c : Dev nD) : (dats m 0 c).arrAt 2 cfg0.N = layerIn m c :=
  (dats m 0 c).arrAt_eq_of_cover 2 (layerIn m c) (fun t _ => flushed_layer m c t) covered

end Cert.KernelIdeal.Stream

end
-- ==== Proof.Reference.lean ====
/- The reference: its term is the layer entry by entry, and its run leaves the arguments and the counters alone. -/
module

public import proofs.«01_k».proof.Proof.Gen.ReferenceIdeal.Run
public import proofs.«01_k».proof.Proof.Layer
public import Idealize.ShloMosaic.Lib.Claim
public import Idealize.ShloMosaic.Lib.MatmulPlain
public import Idealize.ShloMosaic.Lib.Quiescent
public import Idealize.ShloMosaic.Lib.StackMember

@[expose] public section

noncomputable section

namespace Cert.ReferenceIdeal.Layer

open Cert.ReferenceIdeal Cert.ReferenceIdeal.Gen Cert.Layer
open Idealize.ShloMosaic Idealize.ShloMosaic.TcCoe Idealize.SL.Sem Idealize.ShloMosaic.ValueIdx

/-- The reference's first product is of a matrix by a matrix. -/
theorem dims_support : dot_S10000x128_S128x128_S10000x128_1_0_0_1_n_n = DotDims.plain 10000 128 128 := rfl
/-- So is the second one. -/
theorem dims_aggregate : dot_S10000x10000_S10000x128_S10000x128_1_0_0_1_n_n = DotDims.plain 10000 10000 128 := rfl

/-- The reference's first product is the support, -/
theorem support_eq (x : FVec Ideal S10000x128 .f32) (w : FVec Ideal S128x128 .f32) (k : Fin 10000) (q : Fin 128) :
    (Host.dotGeneral dot_S10000x128_S128x128_S10000x128_1_0_0_1_n_n none x w : FVec Ideal S10000x128 .f32) (ix2 k q)
      = support x w k q := by
  rw [dims_support]; exact StackMember.dotGeneral_plain_apply none x w k q

/-- and its second, of the adjacency matrix by the first, the aggregation. -/
theorem aggregate_eq (A : FVec Ideal S10000x10000 .f32) (x : FVec Ideal S10000x128 .f32) (w : FVec Ideal S128x128 .f32)
    (p : Fin 10000) (q : Fin 128) :
    (Host.dotGeneral dot_S10000x10000_S10000x128_S10000x128_1_0_0_1_n_n none A
      (Host.dotGeneral dot_S10000x128_S128x128_S10000x128_1_0_0_1_n_n none x w) : FVec Ideal S10000x128 .f32) (ix2 p q)
      = aggregate A x w p q := by
  rw [dims_aggregate]
  refine (StackMember.dotGeneral_plain_apply none A _ p q).trans (Finset.sum_congr rfl fun k _ => ?_)
  rw [support_eq]

/-- The reference's result is the layer of its arguments. -/
theorem result_eq (A : FVec Ideal S10000x10000 .f32) (x : FVec Ideal S10000x128 .f32) (w : FVec Ideal S128x128 .f32) :
    (addf (mulf (broadcastInDim S10000x128 ![] bcast_S_S10000x128 (constant S_ .f32 0x3F733333#32)) x)
      (mulf (broadcastInDim S10000x128 ![] bcast_S_S10000x128 (constant S_ .f32 0x3D4CCCCD#32))
        (Host.dotGeneral dot_S10000x10000_S10000x128_S10000x128_1_0_0_1_n_n none A
          (Host.dotGeneral dot_S10000x128_S128x128_S10000x128_1_0_0_1_n_n none x w))) : FVec Ideal S10000x128 .f32)
      = layer A x w := by
  funext i
  obtain ⟨p, q, rfl⟩ : ∃ (p : Fin 10000) (q : Fin 128), i = ix2 p q := ⟨i 0, i 1, eq_ix2 i⟩
  rw [addf_apply, mulf_apply, mulf_apply, aggregate_eq]
  rfl

/-- The reference declares no semaphore, so every state of it has every counter at zero. -/
theorem sem_zero (s : MemSt nD τ sig (Elt Ideal)) : s.sem = fun _ => 0 := sem_eq_zero_of_no_sems rfl s

end Cert.ReferenceIdeal.Layer

end
-- ==== Proof.Same.lean ====
/- The kernel and its idealization are the same program: the idealization rewrote nothing, so the two print the same
   text, and a run proved of one at every choice of float values is a run of the other. -/
module

public import proofs.«01_k».proof.Proof.Gen.Kernel
public import proofs.«01_k».proof.Proof.Gen.KernelIdeal

@[expose] public section

noncomputable section

namespace Cert.Same

open Idealize.ShloMosaic Idealize.SL.Sem

/-- The two bodies are the same function of the point and the staging buffers. -/
theorem defs0_same (F : FTy → Type) [FloatOps F] :
    @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.KernelIdeal.nD) (τ := Cert.KernelIdeal.τ)) ?_
  funext l a
  match l, a with
  | 0, (t, s) => rfl

/-- So the two programs call the same definitions. -/
theorem defs_same (F : FTy → Type) [FloatOps F] : (Cert.Kernel.defs (F := F)) = (Cert.KernelIdeal.defs (F := F)) :=
  congrArg (Pipeline.defs (Cert.KernelIdeal.pcfgs (F := F))) (defs0_same F)

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Stream.Result
public import proofs.«01_k».proof.Proof.Reference
public import proofs.«01_k».proof.Proof.Same

@[expose] public section

noncomputable section

namespace Cert.Proof

open Idealize.ShloMosaic Idealize.SL.Sem

/-- The idealized kernel ends with its arguments as launched and every counter at zero, at any float values. -/
theorem kernel_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => (h.1 c).2, h.2⟩) (Cert.KernelIdeal.Stream.run_result m g)

/-- The kernel does so at the bit-exact values: it calls the same definitions as its idealization. -/
theorem frame_kernel : Cert.quiescent_Kernel := fun m g _ => by
  rw [Cert.Same.defs_same]
  exact kernel_frame (F := Bits) m g

/-- Its idealization does so at the exact values. -/
theorem frame_ideal : Cert.quiescent_KernelIdeal := fun m g _ => kernel_frame (F := Ideal) m g

/-- So does the reference, which declares no semaphore. -/
theorem frame_reference : Cert.quiescent_ReferenceIdeal := fun m g _ =>
  (θ_run _ _ _).mono (fun r h => ⟨fun c => (h c).2, Cert.ReferenceIdeal.Layer.sem_zero r.2⟩)
    (Cert.ReferenceIdeal.Value.run m g)

/-- From the same arguments the idealized kernel and the reference both end with the layer of them. -/
theorem same_value : Cert.algebraic_KernelIdeal_ReferenceIdeal := fun m g m' g' _ hm =>
  ⟨fun c => Cert.KernelIdeal.Stream.layerIn m c,
    (θ_run _ _ _).mono (fun _ h c => ⟨(h.1 c).1.trans (Cert.KernelIdeal.Stream.final m c), (h.1 c).2⟩)
      (Cert.KernelIdeal.Stream.run_result m g),
    (θ_run _ _ _).mono (fun _ h c => ⟨by
        rw [(h c).1, Cert.ReferenceIdeal.Layer.result_eq, (hm c).1, (hm c).2.1, (hm c).2.2], (h c).2⟩)
      (Cert.ReferenceIdeal.Value.run m' g')⟩

/-- All five claims. -/
theorem claim : Cert.Claim :=
  ⟨Cert.Kernel.Gen.facts, Cert.KernelIdeal.Gen.facts, Cert.ReferenceIdeal.Gen.facts,
    frame_kernel, frame_ideal, frame_reference, trivial, same_value⟩

end Cert.Proof

end
